-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2x128x128 : Shape := ⟨4, ![4, 2, 128, 128]⟩
abbrev S4x1x128x128 : Shape := ⟨4, ![4, 1, 128, 128]⟩
abbrev S4x128x128 : Shape := ⟨3, ![4, 128, 128]⟩
abbrev S1x1 : Shape := ⟨2, ![1, 1]⟩
abbrev S9x4x118x128 : Shape := ⟨4, ![9, 4, 118, 128]⟩
abbrev S4x1x118x128 : Shape := ⟨4, ![4, 1, 118, 128]⟩
abbrev S4x118x128 : Shape := ⟨3, ![4, 118, 128]⟩
abbrev S1x4x118x128 : Shape := ⟨4, ![1, 4, 118, 128]⟩
abbrev S118x128 : Shape := ⟨2, ![118, 128]⟩
abbrev S1x118x128 : Shape := ⟨3, ![1, 118, 128]⟩
abbrev S4x118x2 : Shape := ⟨3, ![4, 118, 2]⟩
abbrev S4x118x126 : Shape := ⟨3, ![4, 118, 126]⟩
abbrev S4x118x1 : Shape := ⟨3, ![4, 118, 1]⟩
abbrev S4x118x127 : Shape := ⟨3, ![4, 118, 127]⟩
abbrev S4x118x3 : Shape := ⟨3, ![4, 118, 3]⟩
abbrev S4x118x125 : Shape := ⟨3, ![4, 118, 125]⟩
abbrev S4x118x4 : Shape := ⟨3, ![4, 118, 4]⟩
abbrev S4x118x124 : Shape := ⟨3, ![4, 118, 124]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S4x2x128x128, .f32⟩
  | .hbm, ⟨1, _⟩ => ⟨S4x1x128x128, .f32⟩
  | .hbm, ⟨2, _⟩ => ⟨S4x128x128, .i32⟩
  | .hbm, ⟨3, _⟩ => ⟨S1x1, .f32⟩
  | .hbm, ⟨4, _⟩ => ⟨S_, .f32⟩
  | .local _ .vmem, ⟨0, _⟩ => ⟨S4x2x128x128, .f32⟩
  | .local _ .vmem, ⟨1, _⟩ => ⟨S4x128x128, .i32⟩
  | .local _ .vmem, ⟨2, _⟩ => ⟨S1x1, .f32⟩
  | .local _ .vmem, ⟨3, _⟩ => ⟨S9x4x118x128, .f32⟩
  | .local _ .vmem, ⟨4, _⟩ => ⟨S9x4x118x128, .f32⟩
  | .local _ .vmem, ⟨5, _⟩ => ⟨S9x4x118x128, .f32⟩
  | _, _ => ⟨S4x2x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x2x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x2x128x128 : Shape := ⟨4, ![4, 2, 128, 128]⟩
abbrev S4x1x128x128 : Shape := ⟨4, ![4, 1, 128, 128]⟩
abbrev S4x128x128 : Shape := ⟨3, ![4, 128, 128]⟩
abbrev S62 : Shape := ⟨1, ![62]⟩
abbrev S16384 : Shape := ⟨1, ![16384]⟩
abbrev S128x128 : Shape := ⟨2, ![128, 128]⟩
abbrev S118x118 : Shape := ⟨2, ![118, 118]⟩
abbrev S13924 : Shape := ⟨1, ![13924]⟩
abbrev S1x13924 : Shape := ⟨2, ![1, 13924]⟩
abbrev S_ : Shape := ⟨0, ![]⟩
abbrev S62x1 : Shape := ⟨2, ![62, 1]⟩
abbrev S62x13924 : Shape := ⟨2, ![62, 13924]⟩
abbrev S1x128x128 : Shape := ⟨3, ![1, 128, 128]⟩
abbrev S2x128x128 : Shape := ⟨3, ![2, 128, 128]⟩
abbrev S2x16384 : Shape := ⟨2, ![2, 16384]⟩
abbrev S13924x1 : Shape := ⟨2, ![13924, 1]⟩
abbrev S2x13924 : Shape := ⟨2, ![2, 13924]⟩
abbrev S2x1x13924 : Shape := ⟨3, ![2, 1, 13924]⟩
abbrev S62x13924x1 : Shape := ⟨3, ![62, 13924, 1]⟩
abbrev S2x62x13924 : Shape := ⟨3, ![2, 62, 13924]⟩
abbrev S1x2x62x13924 : Shape := ⟨4, ![1, 2, 62, 13924]⟩
abbrev S4x2x16384 : Shape := ⟨3, ![4, 2, 16384]⟩
abbrev S4x2x13924 : Shape := ⟨3, ![4, 2, 13924]⟩
abbrev S4x2x1x13924 : Shape := ⟨4, ![4, 2, 1, 13924]⟩
abbrev S4x2x62x13924 : Shape := ⟨4, ![4, 2, 62, 13924]⟩
abbrev S4x16384 : Shape := ⟨2, ![4, 16384]⟩
abbrev S4x13924 : Shape := ⟨2, ![4, 13924]⟩
abbrev S4x1x1x13924 : Shape := ⟨4, ![4, 1, 1, 13924]⟩
abbrev S4x62x13924 : Shape := ⟨3, ![4, 62, 13924]⟩
abbrev S4x1x62x13924 : Shape := ⟨4, ![4, 1, 62, 13924]⟩

abbrev nBuf : Space → Nat
  | .hbm => 124
  | .vmem => 0
  | .smem => 0
  | _ => 0

abbrev bufTy : (tb : Table) → Fin (tcTables nBuf tb) → BufTy
  | .hbm, ⟨0, _⟩ => ⟨S4x2x128x128, .f32⟩
  | .hbm, ⟨1, _⟩ => ⟨S4x1x128x128, .f32⟩
  | .hbm, ⟨2, _⟩ => ⟨S4x128x128, .i32⟩
  | .hbm, ⟨3, _⟩ => ⟨S62, .i32⟩
  | .hbm, ⟨4, _⟩ => ⟨S62, .i32⟩
  | .hbm, ⟨5, _⟩ => ⟨S16384, .i32⟩
  | .hbm, ⟨6, _⟩ => ⟨S128x128, .i32⟩
  | .hbm, ⟨7, _⟩ => ⟨S118x118, .i32⟩
  | .hbm, ⟨8, _⟩ => ⟨S13924, .i32⟩
  | .hbm, ⟨9, _⟩ => ⟨S1x13924, .i32⟩
  | .hbm, ⟨10, _⟩ => ⟨S_, .i32⟩
  | .hbm, ⟨11, _⟩ => ⟨S62, .i32⟩
  | .hbm, ⟨12, _⟩ => ⟨S62, .i32⟩
  | .hbm, ⟨13, _⟩ => ⟨S62, .i32⟩
  | .hbm, ⟨14, _⟩ => ⟨S62x1, .i32⟩
  | .hbm, ⟨15, _⟩ => ⟨S62x13924, .i32⟩
  | .hbm, ⟨16, _⟩ => ⟨S62x13924, .i32⟩
  | .hbm, ⟨17, _⟩ => ⟨S62x13924, .i32⟩
  | .hbm, ⟨18, _⟩ => ⟨S128x128, .i32⟩
  | .hbm, ⟨19, _⟩ => ⟨S128x128, .i32⟩
  | .hbm, ⟨20, _⟩ => ⟨S1x128x128, .i32⟩
  | .hbm, ⟨21, _⟩ => ⟨S1x128x128, .i32⟩
  | .hbm, ⟨22, _⟩ => ⟨S2x128x128, .i32⟩
  | .hbm, ⟨23, _⟩ => ⟨S2x16384, .i32⟩
  | .hbm, ⟨24, _⟩ => ⟨S2x16384, .f32⟩
  | .hbm, ⟨25, _⟩ => ⟨S_, .i32⟩
  | .hbm, ⟨26, _⟩ => ⟨S13924, .i32⟩
  | .hbm, ⟨27, _⟩ => ⟨S13924, .i1⟩
  | .hbm, ⟨28, _⟩ => ⟨S_, .i32⟩
  | .hbm, ⟨29, _⟩ => ⟨S13924, .i32⟩
  | .hbm, ⟨30, _⟩ => ⟨S13924, .i32⟩
  | .hbm, ⟨31, _⟩ => ⟨S13924, .i32⟩
  | .hbm, ⟨32, _⟩ => ⟨S13924x1, .i32⟩
  | .hbm, ⟨33, _⟩ => ⟨S2x13924, .f32⟩
  | .hbm, ⟨34, _⟩ => ⟨S2x1x13924, .f32⟩
  | .hbm, ⟨35, _⟩ => ⟨S_, .i32⟩
  | .hbm, ⟨36, _⟩ => ⟨S62x13924, .i32⟩
  | .hbm, ⟨37, _⟩ => ⟨S62x13924, .i1⟩
  | .hbm, ⟨38, _⟩ => ⟨S_, .i32⟩
  | .hbm, ⟨39, _⟩ => ⟨S62x13924, .i32⟩
  | .hbm, ⟨40, _⟩ => ⟨S62x13924, .i32⟩
  | .hbm, ⟨41, _⟩ => ⟨S62x13924, .i32⟩
  | .hbm, ⟨42, _⟩ => ⟨S62x13924x1, .i32⟩
  | .hbm, ⟨43, _⟩ => ⟨S2x62x13924, .f32⟩
  | .hbm, ⟨44, _⟩ => ⟨S2x62x13924, .f32⟩
  | .hbm, ⟨45, _⟩ => ⟨S2x62x13924, .f32⟩
  | .hbm, ⟨46, _⟩ => ⟨S1x2x62x13924, .f32⟩
  | .hbm, ⟨47, _⟩ => ⟨S4x2x16384, .f32⟩
  | .hbm, ⟨48, _⟩ => ⟨S_, .i32⟩
  | .hbm, ⟨49, _⟩ => ⟨S13924, .i32⟩
  | .hbm, ⟨50, _⟩ => ⟨S13924, .i1⟩
  | .hbm, ⟨51, _⟩ => ⟨S_, .i32⟩
  | .hbm, ⟨52, _⟩ => ⟨S13924, .i32⟩
  | .hbm, ⟨53, _⟩ => ⟨S13924, .i32⟩
  | .hbm, ⟨54, _⟩ => ⟨S13924, .i32⟩
  | .hbm, ⟨55, _⟩ => ⟨S13924x1, .i32⟩
  | .hbm, ⟨56, _⟩ => ⟨S4x2x13924, .f32⟩
  | .hbm, ⟨57, _⟩ => ⟨S4x2x1x13924, .f32⟩
  | .hbm, ⟨58, _⟩ => ⟨S_, .i32⟩
  | .hbm, ⟨59, _⟩ => ⟨S62x13924, .i32⟩
  | .hbm, ⟨60, _⟩ => ⟨S62x13924, .i1⟩
  | .hbm, ⟨61, _⟩ => ⟨S_, .i32⟩
  | .hbm, ⟨62, _⟩ => ⟨S62x13924, .i32⟩
  | .hbm, ⟨63, _⟩ => ⟨S62x13924, .i32⟩
  | .hbm, ⟨64, _⟩ => ⟨S62x13924, .i32⟩
  | .hbm, ⟨65, _⟩ => ⟨S62x13924x1, .i32⟩
  | .hbm, ⟨66, _⟩ => ⟨S4x2x62x13924, .f32⟩
  | .hbm, ⟨67, _⟩ => ⟨S4x2x62x13924, .f32⟩
  | .hbm, ⟨68, _⟩ => ⟨S4x2x62x13924, .f32⟩
  | .hbm, ⟨69, _⟩ => ⟨S4x16384, .i32⟩
  | .hbm, ⟨70, _⟩ => ⟨S_, .i32⟩
  | .hbm, ⟨71, _⟩ => ⟨S13924, .i32⟩
  | .hbm, ⟨72, _⟩ => ⟨S13924, .i1⟩
  | .hbm, ⟨73, _⟩ => ⟨S_, .i32⟩
  | .hbm, ⟨74, _⟩ => ⟨S13924, .i32⟩
  | .hbm, ⟨75, _⟩ => ⟨S13924, .i32⟩
  | .hbm, ⟨76, _⟩ => ⟨S13924, .i32⟩
  | .hbm, ⟨77, _⟩ => ⟨S13924x1, .i32⟩
  | .hbm, ⟨78, _⟩ => ⟨S4x13924, .i32⟩
  | .hbm, ⟨79, _⟩ => ⟨S4x1x1x13924, .i32⟩
  | .hbm, ⟨80, _⟩ => ⟨S_, .i32⟩
  | .hbm, ⟨81, _⟩ => ⟨S62x13924, .i32⟩
  | .hbm, ⟨82, _⟩ => ⟨S62x13924, .i1⟩
  | .hbm, ⟨83, _⟩ => ⟨S_, .i32⟩
  | .hbm, ⟨84, _⟩ => ⟨S62x13924, .i32⟩
  | .hbm, ⟨85, _⟩ => ⟨S62x13924, .i32⟩
  | .hbm, ⟨86, _⟩ => ⟨S62x13924, .i32⟩
  | .hbm, ⟨87, _⟩ => ⟨S62x13924x1, .i32⟩
  | .hbm, ⟨88, _⟩ => ⟨S4x62x13924, .i32⟩
  | .hbm, ⟨89, _⟩ => ⟨S4x1x62x13924, .i32⟩
  | .hbm, ⟨90, _⟩ => ⟨S_, .i32⟩
  | .hbm, ⟨91, _⟩ => ⟨S4x1x1x13924, .i32⟩
  | .hbm, ⟨92, _⟩ => ⟨S4x1x1x13924, .i1⟩
  | .hbm, ⟨93, _⟩ => ⟨S_, .i32⟩
  | .hbm, ⟨94, _⟩ => ⟨S4x1x62x13924, .i32⟩
  | .hbm, ⟨95, _⟩ => ⟨S4x1x62x13924, .i1⟩
  | .hbm, ⟨96, _⟩ => ⟨S4x1x62x13924, .i1⟩
  | .hbm, ⟨97, _⟩ => ⟨S4x1x62x13924, .i1⟩
  | .hbm, ⟨98, _⟩ => ⟨S4x1x62x13924, .f32⟩
  | .hbm, ⟨99, _⟩ => ⟨S_, .f32⟩
  | .hbm, ⟨100, _⟩ => ⟨S4x1x62x13924, .f32⟩
  | .hbm, ⟨101, _⟩ => ⟨S4x1x62x13924, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S4x2x62x13924, .f32⟩
  | .hbm, ⟨111, _⟩ => ⟨S4x2x62x13924, .f32⟩
  | .hbm, ⟨112, _⟩ => ⟨S4x2x62x13924, .f32⟩
  | .hbm, ⟨113, _⟩ => ⟨S4x2x62x13924, .f32⟩
  | .hbm, ⟨114, _⟩ => ⟨S4x2x62x13924, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S4x2x62x13924, .f32⟩
  | .hbm, ⟨119, _⟩ => ⟨S4x2x62x13924, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | _, _ => ⟨S4x2x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_c_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_6 : Ref sig .tc := ⟨.hbm, 48, rfl⟩
abbrev main_v38 : Ref sig .tc := ⟨.hbm, 49, rfl⟩
abbrev main_v39 : Ref sig .tc := ⟨.hbm, 50, rfl⟩
abbrev main_c_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_8 : Ref sig .tc := ⟨.hbm, 58, rfl⟩
abbrev main_v46 : Ref sig .tc := ⟨.hbm, 59, rfl⟩
abbrev main_v47 : Ref sig .tc := ⟨.hbm, 60, rfl⟩
abbrev main_c_9 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c_10 : Ref sig .tc := ⟨.hbm, 70, rfl⟩
abbrev main_v56 : Ref sig .tc := ⟨.hbm, 71, rfl⟩
abbrev main_v57 : Ref sig .tc := ⟨.hbm, 72, rfl⟩
abbrev main_c_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_12 : Ref sig .tc := ⟨.hbm, 80, rfl⟩
abbrev main_v64 : Ref sig .tc := ⟨.hbm, 81, rfl⟩
abbrev main_v65 : Ref sig .tc := ⟨.hbm, 82, rfl⟩
abbrev main_c_13 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c_14 : Ref sig .tc := ⟨.hbm, 90, rfl⟩
abbrev main_v72 : Ref sig .tc := ⟨.hbm, 91, rfl⟩
abbrev main_v73 : Ref sig .tc := ⟨.hbm, 92, rfl⟩
abbrev main_c_15 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst : Ref sig .tc := ⟨.hbm, 99, rfl⟩
abbrev main_v79 : Ref sig .tc := ⟨.hbm, 100, rfl⟩
abbrev main_v80 : Ref sig .tc := ⟨.hbm, 101, rfl⟩
abbrev main_cst_16 : Ref sig .tc := ⟨.hbm, 102, rfl⟩
abbrev main_v81 : Ref sig .tc := ⟨.hbm, 103, rfl⟩
abbrev main_cst_17 : Ref sig .tc := ⟨.hbm, 104, rfl⟩
abbrev main_v82 : Ref sig .tc := ⟨.hbm, 105, rfl⟩
abbrev main_cst_18 : Ref sig .tc := ⟨.hbm, 106, rfl⟩
abbrev main_v83 : Ref sig .tc := ⟨.hbm, 107, rfl⟩
abbrev main_cst_19 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_20 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_21 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩

abbrev nD : Nat := 1
abbrev τ : Topo := Topo.v7x

variable {F : FTy → Type} [FloatOps F]
-- ==== Proof.KernelFold.lean ====
/-
  What the kernel's one store holds, as a fold over the displacements. The printed body is cut into
  hundreds of payloads at arbitrary places; `stored_eq` restates all of them at once as three
  accumulations of one step each over the list `steps`, over the rows read back from the scratch buffers.
-/
module

public import proofs.«01_k».proof.Proof.Gen.KernelIdeal.Frame

@[expose] public section

noncomputable section

namespace Cert.KernelIdeal.Fold

open Cert.KernelIdeal Cert.KernelIdeal.Gen Idealize.ShloMosaic Idealize.ShloMosaic.TcCoe Idealize.ShloMosaic.Tactic

variable {F : FTy → Type} [FloatOps F]

/-- A slab of `n` lanes of the four images. -/
abbrev Lanes (n : ℕ) : Shape := ⟨3, ![4, 118, n]⟩

/-- A slice of lanes fits. -/
theorem slices_lanes {o n : ℕ} (h : o + n ≤ 128) : S4x118x128.Slices ![0, 0, o] (Lanes n) :=
  ⟨rfl, fun a => by fin_cases a <;> simp <;> omega⟩

/-- Two slabs of lanes side by side make the whole. -/
theorem concat_lanes {a b : ℕ} (h : a + b = 128) :
    Shape.Concatenates [Lanes b, Lanes a] S4x118x128 2 :=
  ⟨le_rfl, fun s hs => by
    simp only [List.mem_cons, List.not_mem_nil, or_false] at hs
    rcases hs with rfl | rfl <;> exact ⟨rfl, fun c hc => by fin_cases c <;> first | rfl | exact absurd rfl hc⟩,
    by simpa using (Nat.add_comm b a).trans h⟩

/-- The lanes rotated left by `a`: lane `l` holds lane `l + a`, around the end. -/
def rot (a b : ℕ) (h : a + b = 128) (v : FVec F S4x118x128 .f32) : FVec F S4x118x128 .f32 :=
  concatenate S4x118x128 2
    [⟨Lanes b, extractStridedSlice (Lanes b) ![0, 0, a] v (slices_lanes (by omega))⟩,
      ⟨Lanes a, extractStridedSlice (Lanes a) ![0, 0, 0] v (slices_lanes (by omega))⟩] (concat_lanes h)

/-- The lanes rotated so that lane `l` holds lane `l + (e - 4)`. -/
def rolled (e : Fin 9) (v : FVec F S4x118x128 .f32) : FVec F S4x118x128 .f32 :=
  (![rot 124 4 rfl v, rot 125 3 rfl v,
    rot 126 2 rfl v, rot 127 1 rfl v, v,
    rot 1 127 rfl v, rot 2 126 rfl v,
    rot 3 125 rfl v, rot 4 124 rfl v] :
    Fin 9 → FVec F S4x118x128 .f32) e

/-- The words of the floats -4, …, 4. -/
def word (e : Fin 9) : BitVec 32 :=
  (![0xC0800000#32, 0xC0400000#32, 0xC0000000#32, 0xBF800000#32, 0x00000000#32, 0x3F800000#32,
    0x40000000#32, 0x40400000#32, 0x40800000#32] : Fin 9 → BitVec 32) e

/-- The displacements in the kernel's order, each as (row + 4, column + 4). -/
def steps : List (Fin 9 × Fin 9) :=
  [(0, 2), (0, 3), (0, 4), (0, 5), (0, 6),
    (1, 1), (1, 2), (1, 3), (1, 4), (1, 5), (1, 6),
    (2, 0), (2, 1), (2, 2), (2, 3), (2, 4), (2, 5), (2, 7), (2, 8),
    (3, 0), (3, 1), (3, 2), (3, 3), (3, 4), (3, 6), (3, 7), (3, 8),
    (4, 0), (4, 1), (4, 2), (4, 3), (4, 5), (4, 6), (4, 7), (4, 8),
    (5, 0), (5, 1), (5, 2), (5, 4), (5, 5), (5, 6), (5, 7), (5, 8),
    (6, 0), (6, 1), (6, 3), (6, 4), (6, 5), (6, 6), (6, 7), (6, 8),
    (7, 2), (7, 3), (7, 4), (7, 5), (7, 6), (7, 7),
    (8, 2), (8, 3), (8, 4), (8, 5), (8, 6)]

/-- A scratch row's box fits in the scratch buffer. -/
theorem inb_row (j : Fin 9) :
    ∀ a, (![j.val, 0, 0, 0] : Fin 4 → ℕ) a + S1x4x118x128.size a ≤ S9x4x118x128.size a :=
  (by decide : ∀ j : Fin 9, ∀ a, (![j.val, 0, 0, 0] : Fin 4 → ℕ) a + S1x4x118x128.size a ≤ S9x4x118x128.size a) j

/-- The box of a channel's shifted rows fits in the features. -/
theorem inb_df (ch : Fin 2) (j : Fin 9) :
    ∀ a, (![0, ch.val, j.val + 1, 0] : Fin 4 → ℕ) a + S4x1x118x128.size a ≤ S4x2x128x128.size a :=
  (by decide : ∀ ch : Fin 2, ∀ j : Fin 9, ∀ a,
    (![0, ch.val, j.val + 1, 0] : Fin 4 → ℕ) a + S4x1x118x128.size a ≤ S4x2x128x128.size a) ch j

/-- The box of the shifted rows fits in the targets. -/
theorem inb_tg (j : Fin 9) :
    ∀ a, (![0, j.val + 1, 0] : Fin 3 → ℕ) a + S4x118x128.size a ≤ S4x128x128.size a :=
  (by decide : ∀ j : Fin 9, ∀ a,
    (![0, j.val + 1, 0] : Fin 3 → ℕ) a + S4x118x128.size a ≤ S4x128x128.size a) j

/-- The box of a scratch row. -/
abbrev rowRect (j : Fin 9) : Rect S9x4x118x128 :=
  Rect.unit (s := S9x4x118x128) ![j.val, 0, 0, 0] S1x4x118x128.size (inb_row j)

/-- The box of a channel's shifted rows. -/
abbrev dfRect (ch : Fin 2) (j : Fin 9) : Rect S4x2x128x128 :=
  Rect.unit (s := S4x2x128x128) ![0, ch.val, j.val + 1, 0] S4x1x118x128.size (inb_df ch j)

/-- The box of the targets' shifted rows. -/
abbrev tgRect (j : Fin 9) : Rect S4x128x128 :=
  Rect.unit (s := S4x128x128) ![0, j.val + 1, 0] S4x118x128.size (inb_tg j)

/-- What the nine stores left in a scratch buffer, last first. -/
def pieces (P : Fin 9 → FVec F S1x4x118x128 .f32) : List (View.Piece (Elt F) S9x4x118x128 .f32) :=
  [⟨rowRect 8, P 8⟩,
    ⟨rowRect 7, P 7⟩,
    ⟨rowRect 6, P 6⟩,
    ⟨rowRect 5, P 5⟩,
    ⟨rowRect 4, P 4⟩,
    ⟨rowRect 3, P 3⟩,
    ⟨rowRect 2, P 2⟩,
    ⟨rowRect 1, P 1⟩,
    ⟨rowRect 0, P 0⟩]

/-- What the body stores of a channel's rows. -/
def packed (v : FVec F S4x1x118x128 .f32) : FVec F S1x4x118x128 .f32 :=
  shapeCast S1x4x118x128 (shapeCast S4x118x128 v shapeCasts_S4x1x118x128_S4x118x128) shapeCasts_S4x118x128_S1x4x118x128

/-- What the body stores of the targets' rows: one where the target is positive. -/
def labels (v : IVec S4x118x128 32) : FVec F S1x4x118x128 .f32 :=
  shapeCast S1x4x118x128
    (select (cmpi .sgt v (broadcast S4x118x128 0#32)) (broadcast S4x118x128 (Scalar.ofBits .f32 0x3F800000#32 : F .f32))
      (broadcast S4x118x128 (Scalar.ofBits .f32 0x00000000#32 : F .f32))) shapeCasts_S4x118x128_S1x4x118x128

/-- A scratch row without its unit axis. -/
def row (v : FVec F S1x4x118x128 .f32) : FVec F S4x118x128 .f32 :=
  shapeCast S4x118x128 v shapeCasts_S1x4x118x128_S4x118x128

/-- One in the lanes of the interior, zero outside. -/
def lanemask : FVec F S118x128 .f32 :=
  select (andi (cmpi .sge (iota .tc S118x128 32 [1] iota_S118x128_d1_w32) (broadcast S118x128 5#32))
      (cmpi .slt (iota .tc S118x128 32 [1] iota_S118x128_d1_w32) (broadcast S118x128 123#32)))
    (broadcast S118x128 (Scalar.ofBits .f32 0x3F800000#32 : F .f32)) (broadcast S118x128 (Scalar.ofBits .f32 0x00000000#32 : F .f32))

/-- The lane mask for the four images. -/
def lanemask4 : FVec F S4x118x128 .f32 :=
  broadcastTo S4x118x128 (shapeCast S1x118x128 (lanemask (F := F)) shapeCasts_S118x128_S1x118x128) broadcasts_S1x118x128_S4x118x128

/-- The sum over the four images. -/
def sumB (v : FVec F S4x118x128 .f32) : FVec F S118x128 .f32 :=
  multiReduction .add [0] S118x128 v 0x00000000#32 reduces_S4x118x128_S118x128 (.inl rfl) rfl

/-- The sum over all lanes. -/
def total (v : FVec F S118x128 .f32) : F .f32 :=
  extractAt ![0, 0, 0] (shapeCast S1x1x1 (multiReduction .add [1, 2] S1
    (shapeCast S1x118x128 v shapeCasts_S118x128_S1x118x128) 0x00000000#32 reduces_S1x118x128_S1 (.inl rfl) rfl)
    shapeCasts_S1_S1x1x1) inpos_S1x1x1_p0_0_0

section
variable (R0 R1 RT : Fin 9 → FVec F S1x4x118x128 .f32)

/-- The foreground labels of the pairs of one displacement. -/
def fg (s : Fin 9 × Fin 9) : FVec F S4x118x128 .f32 :=
  mulf (mulf (row (RT 4)) lanemask4) (rolled s.2 (row (RT s.1)))

/-- The difference of one channel over one displacement. -/
def diff (R : Fin 9 → FVec F S1x4x118x128 .f32) (s : Fin 9 × Fin 9) : FVec F S4x118x128 .f32 :=
  subf (rolled s.2 (row (R s.1))) (row (R 4))

/-- One step's foreground losses. -/
def fgStep (s : Fin 9 × Fin 9) : FVec F S118x128 .f32 :=
  sumB (mulf (fg RT s) (addf
    (absf (subf (diff R0 s) (broadcast S4x118x128 (Scalar.ofBits .f32 (word s.1) : F .f32))))
    (absf (subf (diff R1 s) (broadcast S4x118x128 (Scalar.ofBits .f32 (word s.2) : F .f32))))))

/-- One step's background losses. -/
def bgStep (s : Fin 9 × Fin 9) : FVec F S118x128 .f32 :=
  sumB (mulf (subf lanemask4 (fg RT s)) (addf (diff R0 s) (diff R1 s)))

/-- One step's foreground count. -/
def cntStep (s : Fin 9 × Fin 9) : FVec F S118x128 .f32 := sumB (fg RT s)

/-- The accumulation of a step over the displacements, from zero. -/
def acc (f : Fin 9 × Fin 9 → FVec F S118x128 .f32) : FVec F S118x128 .f32 :=
  steps.foldl (fun a s => addf a (f s)) (broadcast S118x128 (Scalar.ofBits .f32 0x00000000#32 : F .f32))

/-- The loss the kernel stores. -/
def loss : F .f32 :=
  Scalar.addf
    (Scalar.divf (total (acc (fgStep R0 R1 RT)))
      (Scalar.maximumf (total (acc (cntStep RT))) (Scalar.ofBits .f32 0x3F800000#32)))
    (Scalar.divf (total (acc (bgStep R0 R1 RT)))
      (Scalar.maximumf (Scalar.subf (Scalar.ofBits .f32 0x4A52C380#32) (total (acc (cntStep RT))))
        (Scalar.ofBits .f32 0x3F800000#32)))
end

/-- Row `j` read back from a scratch buffer after the nine stores. -/
def back (arg : Memref sig .tc .vmem S9x4x118x128 .f32) (P : Fin 9 → FVec F S1x4x118x128 .f32) (j : Fin 9) :
    FVec F S1x4x118x128 .f32 :=
  arg.view.readCov (pieces P) (rowRect j).toLoadRect

set_option maxRecDepth 65536 in
set_option maxHeartbeats 4000000 in
/-- The body's one store is the loss of the rows read back from the scratch buffers. -/
theorem stored_eq (c : Dev nD) (arg0 : Memref sig .tc .vmem S4x2x128x128 .f32) (harg0 : arg0.IsWhole) (arg1 : Memref sig .tc .vmem S4x128x128 .i32) (harg1 : arg1.IsWhole) (arg2 : Memref sig .tc .vmem S1x1 .f32) (harg2 : arg2.IsWhole) (arg3 : Memref sig .tc .vmem S9x4x118x128 .f32) (harg3 : arg3.IsWhole) (arg4 : Memref sig .tc .vmem S9x4x118x128 .f32) (harg4 : arg4.IsWhole) (arg5 : Memref sig .tc .vmem S9x4x118x128 .f32) (harg5 : arg5.IsWhole)
    (x0 : Vec F S4x2x128x128 .f32) (x1 : Vec F S4x128x128 .i32) :
    (kernelRun0_A c arg0 harg0 arg1 harg1 arg2 harg2 arg3 harg3 arg4 harg4 arg5 harg5 x0 x1).1 =
      [⟨Rect.unit ![0, 0] S1x1.size inb_S1x1_S1x1_0_0,
        broadcast S1x1 (loss
          (back arg3 fun j => packed (View.readAt (Elt F) arg0.view (dfRect 0 j).toLoadRect (harg0.unread x0)))
          (back arg4 fun j => packed (View.readAt (Elt F) arg0.view (dfRect 1 j).toLoadRect (harg0.unread x0)))
          (back arg5 fun j => labels (View.readAt (Elt F) arg1.view (tgRect j).toLoadRect (harg1.unread x1))))⟩] := by
  unfold kernelRun0_A
  dsimp only
  sl_unfold_words
  rfl

end Cert.KernelIdeal.Fold

end
-- ==== Proof.KernelRun.lean ====
/-
  The kernel's run: the result buffer ends at the loss of the shifted rows of the arguments, the arguments
  as they were.
-/
module

public import proofs.«01_k».proof.Proof.KernelFold
public import Idealize.ShloMosaic.Lib.Pipeline.Value
public import Idealize.ShloMosaic.Lib.Pipeline.ReadBack
public import Idealize.ShloMosaic.Lib.StableHlo.Run

@[expose] public section

noncomputable section

namespace Cert.KernelIdeal.Fold

open Cert.KernelIdeal Cert.KernelIdeal.Gen Idealize.ShloMosaic Idealize.ShloMosaic.TcCoe Idealize.ShloMosaic.Tactic Idealize.SL.Sem
  Idealize.ShloMosaic.StableHlo
open Idealize.ShloMosaic.Pipeline (Dat)

variable {F : FTy → Type} [FloatOps F]

/-- A scratch row reads back what its own store left: the later stores are to other rows. -/
theorem back_eq (arg : Memref sig .tc .vmem S9x4x118x128 .f32) (P : Fin 9 → FVec F S1x4x118x128 .f32) (j : Fin 9) :
    back arg P j = P j := by
  have skip : ∀ i : Fin 9, ∀ (L : List (View.Piece (Elt F) S9x4x118x128 .f32)), j ≠ i →
      arg.view.readCov (⟨rowRect i, P i⟩ :: L) (rowRect j).toLoadRect = arg.view.readCov L (rowRect j).toLoadRect :=
    fun i L h => View.readCov_skip _ _ _ _ _ ((by decide : ∀ i j : Fin 9, j ≠ i → LoadRect.disj (rowRect i) (rowRect j).toLoadRect = true) i j h)
  have here : ∀ (L : List (View.Piece (Elt F) S9x4x118x128 .f32)),
      arg.view.readCov (⟨rowRect j, P j⟩ :: L) (rowRect j).toLoadRect = P j :=
    fun L => View.readCov_cons_toLoadRect _ _ _ _
  unfold back pieces
  have step : ∀ i : Fin 9, ∀ (L : List (View.Piece (Elt F) S9x4x118x128 .f32)),
      (j ≠ i → arg.view.readCov L (rowRect j).toLoadRect = P j) →
      arg.view.readCov (⟨rowRect i, P i⟩ :: L) (rowRect j).toLoadRect = P j := fun i L h => by
    by_cases e : j = i
    · subst e; exact here L
    · rw [skip i L e, h e]
  refine step 8 _ fun h8 => step 7 _ fun h7 => step 6 _ fun h6 => step 5 _ fun h5 => step 4 _ fun h4 =>
    step 3 _ fun h3 => step 2 _ fun h2 => step 1 _ fun h1 => step 0 _ fun h0 => absurd j.isLt ?_
  simp only [ne_eq, Fin.ext_iff] at h0 h1 h2 h3 h4 h5 h6 h7 h8
  simp at h0 h1 h2 h3 h4 h5 h6 h7 h8
  omega

/-- A channel's rows shifted by each row displacement, as the body stores them. -/
def dfRows (x0 : FVec F S4x2x128x128 .f32) (ch : Fin 2) (j : Fin 9) : FVec F S1x4x118x128 .f32 :=
  packed (View.ld (Val := Elt F) (e' := .f32) x0 (dfRect ch j))

/-- The labels' rows shifted by each row displacement, as the body stores them. -/
def tgRows (x1 : IVec S4x128x128 32) (j : Fin 9) : FVec F S1x4x118x128 .f32 :=
  labels (View.ld (Val := Elt F) (e' := .i32) x1 (tgRect j))

/-- The kernel's loss of its arguments. -/
def lossOf (x0 : FVec F S4x2x128x128 .f32) (x1 : IVec S4x128x128 32) : F .f32 :=
  loss (dfRows x0 0) (dfRows x0 1) (tgRows x1)

/-- The block the body leaves is the loss. -/
theorem out_eq (c : Dev nD) (arg0 : Memref sig .tc .vmem S4x2x128x128 .f32) (harg0 : arg0.IsWhole) (arg1 : Memref sig .tc .vmem S4x128x128 .i32) (harg1 : arg1.IsWhole) (arg2 : Memref sig .tc .vmem S1x1 .f32) (harg2 : arg2.IsWhole) (arg3 : Memref sig .tc .vmem S9x4x118x128 .f32) (harg3 : arg3.IsWhole) (arg4 : Memref sig .tc .vmem S9x4x118x128 .f32) (harg4 : arg4.IsWhole) (arg5 : Memref sig .tc .vmem S9x4x118x128 .f32) (harg5 : arg5.IsWhole)
    (x0 : Vec F S4x2x128x128 .f32) (x1 : Vec F S4x128x128 .i32) :
    out0_A_2 c arg0 harg0 arg1 harg1 arg2 harg2 arg3 harg3 arg4 harg4 arg5 harg5 x0 x1 = broadcast S1x1 (lossOf x0 x1) := by
  unfold out0_A_2
  rw [View.read_writes_eq_canon _ _ _ (cover0_A_2 c arg0 harg0 arg1 harg1 arg2 harg2 arg3 harg3 arg4 harg4 arg5 harg5 x0 x1),
    stored_eq, View.canon_unit_zero (S := S1x1) (funext fun a => by fin_cases a <;> rfl)]
  unfold lossOf dfRows tgRows
  simp only [funext (back_eq arg3 _), funext (back_eq arg4 _), funext (back_eq arg5 _), View.readAt_eq_ld, harg0.read_unread,
    harg1.read_unread]

variable (m : (ℓ : Loc nD τ sig) → Buf (Elt F) ℓ) (ρ : Dev nD → PrngReg)

/-- The features' block is the whole argument. -/
theorem iblk_df (c : Dev nD) : (iblk m c 0 t0_0 : Vec F S4x2x128x128 .f32) = m ((c : Thread nD τ).loc main_arg0) := by
  have hz' : (fun a => win0_0.index t0_0 a * main_arg0.ty.shape.size a) = fun _ => 0 := funext fun a => by fin_cases a <;> decide
  exact (Memref.read_access_unit_zero (Elt F) main_arg0 hz' (fun a => by rw [congrFun hz' a]; simp) _).trans (V_main_arg0 m c)

/-- The targets' block is the whole argument. -/
theorem iblk_tg (c : Dev nD) : (iblk m c 1 t0_0 : Vec F S4x128x128 .i32) = m ((c : Thread nD τ).loc main_arg2) := by
  have hz' : (fun a => win0_1.index t0_0 a * main_arg2.ty.shape.size a) = fun _ => 0 := funext fun a => by fin_cases a <;> decide
  exact (Memref.read_access_unit_zero (Elt F) main_arg2 hz' (fun a => by rw [congrFun hz' a]; simp) _).trans (V_main_arg2 m c)

/-- The pallas_call's array after the region: the loss. -/
def result (c : Dev nD) : Buf (Elt F) ((c : Thread nD τ).loc main_v0) :=
  broadcast S1x1 (lossOf (m ((c : Thread nD τ).loc main_arg0)) (m ((c : Thread nD τ).loc main_arg2)))

/-- What the one point writes back is the loss. -/
theorem flushed_eq (c : Dev nD) (t : Fin cfg0.N) :
    (dats m 0 c).flushed 2 t = ((cfg0.win 2).blk t).view.read (Elt F) (result m c) := by
  obtain rfl : t = t0_0 := fin_N0 t
  show (cfg0.win 2).cut (grid0.coords t0_0) ((dats m 0 c).after 2 t0_0) = _
  rw [after0_2]
  unfold outsAt0
  rw [out_eq, iblk_df, iblk_tg]
  have hz' : (fun a => win0_2.index t0_0 a * main_v0.ty.shape.size a) = fun _ => 0 := funext fun a => by fin_cases a <;> decide
  exact (Memref.read_access_unit_zero (Elt F) main_v0 hz' (fun a => by rw [congrFun hz' a]; simp) (result m c)).symm

/-- So the array ends at the loss: the one point covers it. -/
theorem final_o (c : Dev nD) : (dats m 0 c).arrAt 2 cfg0.N = result m c :=
  (dats m 0 c).arrAt_eq_of_cover 2 (result m c) (fun t _ => flushed_eq m c t) fun i =>
    ⟨t0_0, flush0_2 t0_0, by
      show i ∈ ((View.whole main_v0).slice (win0_2.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 1 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 1 from by decide +kernel]; omega⟩

/-- The host's reshape after the region leaves the loss as the result. -/
theorem tail_eq (c : Dev nD) :
    Pipeline.afterTail₀ cfgs (dats m) 0 (V0 m) [hostOps1] c main_v1 =
      (broadcast S_ (lossOf (m ((c : Thread nD τ).loc main_arg0)) (m ((c : Thread nD τ).loc main_arg2))) : FVec F S_ .f32) := by
  unfold Pipeline.afterTail₀
  have h : Pipeline.withArrays (cfgs 0).spec c (V0 m c) (fun w => (dats m 0 c).arrAt w (cfgs 0).N) (Proc.devRef .tc main_v0) = result m c :=
    (Pipeline.withArrays_arr (cfgs 0).spec (by decide) c (V0 m c) (fun w => (dats m 0 c).arrAt w (cfgs 0).N) 2).trans (final_o m c)
  show StableHlo.after hostOps1 _ _ = _
  after_results
  rw [h]
  rfl

/-- The run: the result at the loss of the arguments, the arguments unchanged. -/
theorem run : θ_run defs (onTc (τ := τ) (main (F := F))) ⟨m, fun _ => 0, ρ⟩ fun r => ∀ c : Dev nD,
      r.2.mem ((c.tc : Thread nD τ).loc main_v1) =
          (broadcast S_ (lossOf (m ((c : Thread nD τ).loc main_arg0)) (m ((c : Thread nD τ).loc main_arg2))) : FVec F S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Fold

end
-- ==== Proof.Spec.lean ====
/-
  The loss as plain sums over pairs of pixels, which both programs are brought to. A pair is an interior
  pixel together with the pixel one displacement away; a displacement is written (row + 4, column + 4).
-/
module

public import Idealize.ShloMosaic.Lib.Pointwise

@[expose] public section

noncomputable section

namespace Cert.Pairs

open Idealize.ShloMosaic

/-- One for true, zero for false. -/
def bit (p : Bool) : EReal := if p then 1 else 0

/-- An interior coordinate as a coordinate of the whole image. -/
def base (i : Fin 118) : Fin 128 := ⟨i.val + 5, by omega⟩

/-- An interior coordinate displaced by `e - 4`. -/
def moved (e : Fin 9) (i : Fin 118) : Fin 128 := ⟨i.val + e.val + 1, by omega⟩

/-- The marked pixels: those of a positive target. -/
def mark (x1 : IVec ⟨3, ![4, 128, 128]⟩ 32) (b : Fin 4) (y x : Fin 128) : Bool := (0#32).slt (x1 (ValueIdx.ix3 b y x))

/-- The features by coordinates. -/
def feat (x0 : FVec Ideal ⟨4, ![4, 2, 128, 128]⟩ .f32) (b : Fin 4) (c : Fin 2) (y x : Fin 128) : EReal :=
  x0 (ValueIdx.ix4 b c y x)

/-- Both pixels of the pair are marked. -/
def both (M : Fin 4 → Fin 128 → Fin 128 → Bool) (s : Fin 9 × Fin 9) (b : Fin 4) (i x : Fin 118) : Bool :=
  M b (base i) (base x) && M b (moved s.1 i) (moved s.2 x)

/-- The difference of channel `c` over the pair. -/
def gap (D : Fin 4 → Fin 2 → Fin 128 → Fin 128 → EReal) (s : Fin 9 × Fin 9) (b : Fin 4) (c : Fin 2) (i x : Fin 118) : EReal :=
  D b c (moved s.1 i) (moved s.2 x) - D b c (base i) (base x)

/-- A displacement's number. -/
def num (e : Fin 9) : EReal := (((e.val : ℝ) - 4 : ℝ) : EReal)

/-- The absolute value. -/
def size (x : EReal) : EReal := max x (-x)

/-- The sum over all pairs of the displacements in `A`. -/
def sumP (A : Finset (Fin 9 × Fin 9)) (f : Fin 9 × Fin 9 → Fin 4 → Fin 118 → Fin 118 → EReal) : EReal :=
  ∑ s ∈ A, ∑ b, ∑ i, ∑ x, f s b i x

/-- The loss. -/
def spec (A : Finset (Fin 9 × Fin 9)) (D : Fin 4 → Fin 2 → Fin 128 → Fin 128 → EReal)
    (M : Fin 4 → Fin 128 → Fin 128 → Bool) : EReal :=
  Ideal.div
      (sumP A fun s b i x => bit (both M s b i x) *
        (size (gap D s b 0 i x - num s.1) + size (gap D s b 1 i x - num s.2)))
      (max (sumP A fun s b i x => bit (both M s b i x)) 1) +
    Ideal.div
      (sumP A fun s b i x => (1 - bit (both M s b i x)) * (gap D s b 0 i x + gap D s b 1 i x))
      (max (sumP A fun s b i x => 1 - bit (both M s b i x)) 1)

/-- A sum over lanes of a function that vanishes outside the interior is the sum over the interior. -/
theorem sum_lanes (g : Fin 128 → EReal) (h : ∀ l : Fin 128, ¬(5 ≤ l.val ∧ l.val < 123) → g l = 0) :
    ∑ l, g l = ∑ x : Fin 118, g (base x) := by
  refine (Fintype.sum_of_injective base (fun a b e => Fin.ext ?_) _ _ (fun l hl => h l fun hh => hl ?_) fun _ => rfl).symm
  · have := congrArg Fin.val e
    simp only [base] at this
    omega
  · exact ⟨⟨l.val - 5, by omega⟩, Fin.ext (by simp only [base]; omega)⟩

/-- A sum in the kernel's order is the sum over all pairs. -/
theorem sumP_eq (A : Finset (Fin 9 × Fin 9)) (f : Fin 9 × Fin 9 → Fin 4 → Fin 118 → Fin 118 → EReal) :
    ∑ i, ∑ x, ∑ s ∈ A, ∑ b, f s b i x = sumP A f := by
  unfold sumP
  calc _ = ∑ i, ∑ s ∈ A, ∑ x, ∑ b, f s b i x := Finset.sum_congr rfl fun _ _ => Finset.sum_comm
    _ = ∑ s ∈ A, ∑ i, ∑ x, ∑ b, f s b i x := Finset.sum_comm
    _ = _ := Finset.sum_congr rfl fun s _ => by
      calc _ = ∑ i, ∑ b, ∑ x, f s b i x := Finset.sum_congr rfl fun _ _ => Finset.sum_comm
        _ = _ := Finset.sum_comm

/-- A bit is a real number. -/
theorem bit_eq (p : Bool) : bit p = ((if p then 1 else 0 : ℝ) : EReal) := by cases p <;> simp [bit]

/-- The complement of a bit is a real number. -/
theorem one_sub_bit (p : Bool) : 1 - bit p = ((1 - (if p then 1 else 0) : ℝ) : EReal) := by
  rw [bit_eq, EReal.coe_sub, EReal.coe_one]

/-- A sum over pairs of real numbers is the real sum. -/
theorem sumP_coe (A : Finset (Fin 9 × Fin 9)) (f : Fin 9 × Fin 9 → Fin 4 → Fin 118 → Fin 118 → ℝ) :
    sumP A (fun s b i x => (f s b i x : EReal)) = ((∑ s ∈ A, ∑ b, ∑ i, ∑ x, f s b i x : ℝ) : EReal) := by
  let φ : ℝ →+ EReal := ⟨⟨fun r => (r : EReal), EReal.coe_zero⟩, EReal.coe_add⟩
  show ∑ s ∈ A, ∑ b, ∑ i, ∑ x, φ (f s b i x) = φ (∑ s ∈ A, ∑ b, ∑ i, ∑ x, f s b i x)
  simp only [map_sum]

/-- The pairs not both marked are all the others. -/
theorem count_rest (A : Finset (Fin 9 × Fin 9)) (p : Fin 9 × Fin 9 → Fin 4 → Fin 118 → Fin 118 → Bool) :
    sumP A (fun s b i x => 1 - bit (p s b i x)) = ((A.card * 55696 : ℝ) : EReal) - sumP A (fun s b i x => bit (p s b i x)) := by
  simp only [one_sub_bit]
  simp only [bit_eq]
  rw [sumP_coe, sumP_coe, ← EReal.coe_sub]
  congr 1
  simp only [Finset.sum_sub_distrib, Finset.sum_const, Finset.card_univ, Fintype.card_fin, nsmul_eq_mul]
  norm_num

end Cert.Pairs

end
-- ==== Proof.KernelRead.lean ====
/-
  The kernel's loss read at an index, over the extended reals.
-/
module

public import proofs.«01_k».proof.Proof.KernelRun
public import proofs.«01_k».proof.Proof.Spec
public import Idealize.ShloMosaic.Lib.Pointwise

@[expose] public section

noncomputable section

namespace Cert.KernelIdeal.Fold

open Cert.KernelIdeal Cert.KernelIdeal.Gen Idealize.ShloMosaic Idealize.ShloMosaic.Tactic Idealize.ShloMosaic.Pointwise Cert.Pairs

/-- The sum over all lanes is the double sum. -/
theorem total_eq (v : FVec Ideal S118x128 .f32) : total v = ∑ i : Fin 118, ∑ l : Fin 128, v (ix2 i l) := by
  pointwise [total]

/-- The sum over the images at a pixel. -/
theorem sumB_apply (v : FVec Ideal S4x118x128 .f32) (i : Fin 118) (l : Fin 128) :
    sumB v (ix2 i l) = ∑ b : Fin 4, v (ix3 b i l) := by
  pointwise [sumB]

/-- A channel's rows as the steps read them. -/
theorem row_packed (v : FVec Ideal S4x1x118x128 .f32) (b : Fin 4) (i : Fin 118) (l : Fin 128) :
    row (packed v) (ix3 b i l) = v (ix4 b 0 i l) := by
  pointwise [row, packed]

/-- The labels as the steps read them. -/
theorem row_labels (v : IVec S4x118x128 32) (b : Fin 4) (i : Fin 118) (l : Fin 128) :
    row (labels (F := Ideal) v) (ix3 b i l) = bit ((0#32).slt (v (ix3 b i l))) := by
  pointwise [row, labels]
  generalize v (ix3 b i l) = w
  unfold Scalar.select IntOp.cmpi bit
  cases h : (0#32).slt w <;> simp [h]

/-- The lane mask at a lane. -/
theorem mask_apply (b : Fin 4) (i : Fin 118) (l : Fin 128) :
    lanemask4 (F := Ideal) (ix3 b i l) = if 5 ≤ l.val ∧ l.val < 123 then 1 else 0 := by
  pointwise [lanemask4, lanemask]
  have h : IntOp.andi (IntOp.cmpi .sge (BitVec.ofNat 32 l.val) 5#32) (IntOp.cmpi .slt (BitVec.ofNat 32 l.val) 123#32) =
      if 5 ≤ l.val ∧ l.val < 123 then 1#1 else 0#1 := by
    revert l
    decide
  rw [h]
  split <;> simp [Scalar.select]

/-- A rotation at a lane. -/
theorem rot_apply (a b : ℕ) (h : a + b = 128) (v : FVec Ideal S4x118x128 .f32) (k : Fin 4) (i : Fin 118) (l : Fin 128) :
    rot a b h v (ix3 k i l) = v (ix3 k i ⟨(l.val + a) % 128, Nat.mod_lt _ (by decide)⟩) := by
  unfold rot
  by_cases hl : l.val < b
  · rw [concatenate_pair_apply_left (t := S4x118x128) (s₁ := Lanes b) (s₂ := Lanes a) 2 _ _ _ _ rfl (ix3 k i ⟨l.val, hl⟩ : (Lanes b).Idx)
      (fun c => by fin_cases c <;> rfl)]
    refine extractStridedSlice_apply _ _ _ _ _ fun c => ?_
    fin_cases c
    · exact (Nat.zero_add _).symm
    · exact (Nat.zero_add _).symm
    · show (l.val + a) % 128 = a + l.val
      omega
  · rw [concatenate_pair_apply_right (t := S4x118x128) (s₁ := Lanes b) (s₂ := Lanes a) 2 _ _ _ _ rfl rfl
      (ix3 k i ⟨l.val - b, by omega⟩ : (Lanes a).Idx)
      (fun c hc => by fin_cases c <;> first | rfl | exact absurd rfl hc) (Nat.sub_add_cancel (by omega))]
    refine extractStridedSlice_apply _ _ _ _ _ fun c => ?_
    fin_cases c
    · exact (Nat.zero_add _).symm
    · exact (Nat.zero_add _).symm
    · show (l.val + a) % 128 = 0 + (l.val - b)
      omega

/-- The lanes rotated by a displacement, at an interior lane. -/
theorem rolled_apply (e : Fin 9) (v : FVec Ideal S4x118x128 .f32) (b : Fin 4) (i : Fin 118) (x : Fin 118) :
    rolled e v (ix3 b i (base x)) = v (ix3 b i (moved e x)) := by
  have key : ∀ a b' (h : a + b' = 128), (x.val + 5 + a) % 128 = x.val + e.val + 1 →
      rot a b' h v (ix3 b i (base x)) = v (ix3 b i (moved e x)) := fun a b' h hx => by
    rw [rot_apply]
    exact congrArg (fun l => v (ix3 b i l)) (Fin.ext hx)
  have hx := x.isLt
  fin_cases e
  all_goals first
    | exact key _ _ rfl (by simp only; omega)
    | rfl

/-- A displacement's word is its number. -/
theorem word_eq (e : Fin 9) : Ideal.ofBits .f32 (word e) = num e := by
  fin_cases e <;> simp [word, num, Ideal.ofBits, Ideal.ieee, -EReal.coe_mul, -EReal.coe_sub, ← EReal.coe_neg, -EReal.coe_neg] <;>
    norm_num [-EReal.coe_sub, -EReal.coe_neg]

/-- A channel's shifted rows at an index. -/
theorem ld_df (x0 : FVec Ideal S4x2x128x128 .f32) (ch : Fin 2) (j : Fin 9) (b : Fin 4) (i : Fin 118) (l : Fin 128) :
    View.ld (Val := Elt Ideal) (e' := .f32) x0 (dfRect ch j) (ix4 b 0 i l) = x0 (ix4 b ch (moved j i) l) := by
  unfold View.ld
  refine congrArg x0 (funext fun a => Fin.ext ?_)
  fin_cases a
  · show 0 + 1 * b.val = b.val
    omega
  · show ch.val + 0 = ch.val
    rfl
  · show j.val + 1 + 1 * i.val = i.val + j.val + 1
    omega
  · show 0 + 1 * l.val = l.val
    omega

/-- The targets' shifted rows at an index. -/
theorem ld_tg (x1 : IVec S4x128x128 32) (j : Fin 9) (b : Fin 4) (i : Fin 118) (l : Fin 128) :
    View.ld (Val := Elt Ideal) (e' := .i32) x1 (tgRect j) (ix3 b i l) = x1 (ix3 b (moved j i) l) := by
  unfold View.ld
  refine congrArg x1 (funext fun a => Fin.ext ?_)
  fin_cases a
  · show 0 + 1 * b.val = b.val
    omega
  · show j.val + 1 + 1 * i.val = i.val + j.val + 1
    omega
  · show 0 + 1 * l.val = l.val
    omega

/-- An accumulation at a pixel is the sum over the displacements. -/
theorem acc_apply (f : Fin 9 × Fin 9 → FVec Ideal S118x128 .f32) (j : S118x128.Idx) :
    acc f j = ∑ s ∈ steps.toFinset, f s j := by
  have h : ∀ (L : List (Fin 9 × Fin 9)) (v : FVec Ideal S118x128 .f32),
      L.foldl (fun a s => addf a (f s)) v j = v j + (L.map fun s => f s j).sum := by
    intro L
    induction L with
    | nil => intro v; simp
    | cons s L ih =>
      intro v
      rw [List.foldl_cons, ih, List.map_cons, List.sum_cons, ← add_assoc]
      rfl
  unfold acc
  rw [h, List.sum_toFinset _ (by decide)]
  have h0 : (broadcast S118x128 (Scalar.ofBits .f32 0x00000000#32 : Ideal .f32) : FVec Ideal S118x128 .f32) j = 0 :=
    Ideal.ofBits_zero_f32
  rw [h0, zero_add]

/-- The total of an accumulation of sums over the images that vanish off the interior. -/
theorem total_acc (f : Fin 9 × Fin 9 → FVec Ideal S4x118x128 .f32)
    (g : Fin 9 × Fin 9 → Fin 4 → Fin 118 → Fin 118 → EReal)
    (hoff : ∀ s b i (l : Fin 128), ¬(5 ≤ l.val ∧ l.val < 123) → f s (ix3 b i l) = 0)
    (hin : ∀ s b i x, f s (ix3 b i (base x)) = g s b i x) :
    total (acc fun s => sumB (f s)) = sumP steps.toFinset g := by
  rw [total_eq, ← sumP_eq]
  refine Finset.sum_congr rfl fun i _ => ?_
  simp only [acc_apply, sumB_apply]
  rw [sum_lanes _ fun l hl => Finset.sum_eq_zero fun s _ => Finset.sum_eq_zero fun b _ => hoff s b i l hl]
  simp only [hin]

section
variable (x0 : FVec Ideal S4x2x128x128 .f32) (x1 : IVec S4x128x128 32)

/-- A channel's rows at an index. -/
theorem row_df (c : Fin 2) (j : Fin 9) (b : Fin 4) (i : Fin 118) (l : Fin 128) :
    row (dfRows x0 c j) (ix3 b i l) = feat x0 b c (moved j i) l := by
  unfold dfRows
  rw [row_packed, ld_df]
  rfl

/-- The labels' rows at an index. -/
theorem row_tg (j : Fin 9) (b : Fin 4) (i : Fin 118) (l : Fin 128) :
    row (tgRows (F := Ideal) x1 j) (ix3 b i l) = bit (mark x1 b (moved j i) l) := by
  unfold tgRows
  rw [row_labels, ld_tg]
  rfl

/-- The centre row is the undisplaced one. -/
theorem moved_four (i : Fin 118) : moved 4 i = base i := rfl

/-- The difference over a pair, at an interior lane. -/
theorem diff_in (c : Fin 2) (s : Fin 9 × Fin 9) (b : Fin 4) (i x : Fin 118) :
    diff (dfRows x0 c) s (ix3 b i (base x)) = gap (feat x0) s b c i x := by
  show rolled s.2 (row (dfRows x0 c s.1)) (ix3 b i (base x)) - row (dfRows x0 c 4) (ix3 b i (base x)) = _
  rw [rolled_apply, row_df, row_df]
  rfl

/-- The mask is one at an interior lane. -/
theorem mask_in (b : Fin 4) (i x : Fin 118) : lanemask4 (F := Ideal) (ix3 b i (base x)) = (1 : EReal) := by
  rw [mask_apply, if_pos]
  have := x.isLt
  simp only [base]
  omega

/-- The label of a pair, at an interior lane. -/
theorem fg_in (s : Fin 9 × Fin 9) (b : Fin 4) (i x : Fin 118) :
    fg (tgRows (F := Ideal) x1) s (ix3 b i (base x)) = bit (both (mark x1) s b i x) := by
  show row (tgRows (F := Ideal) x1 4) (ix3 b i (base x)) * lanemask4 (F := Ideal) (ix3 b i (base x)) *
    rolled s.2 (row (tgRows (F := Ideal) x1 s.1)) (ix3 b i (base x)) = _
  rw [rolled_apply, row_tg, row_tg, mask_in, mul_one, moved_four]
  unfold both bit
  cases mark x1 b (base i) (base x) <;> cases mark x1 b (moved s.1 i) (moved s.2 x) <;> simp

/-- The label vanishes off the interior. -/
theorem fg_off (s : Fin 9 × Fin 9) (b : Fin 4) (i : Fin 118) (l : Fin 128) (hl : ¬(5 ≤ l.val ∧ l.val < 123)) :
    fg (tgRows (F := Ideal) x1) s (ix3 b i l) = (0 : EReal) := by
  show row (tgRows (F := Ideal) x1 4) (ix3 b i l) * lanemask4 (F := Ideal) (ix3 b i l) *
    rolled s.2 (row (tgRows (F := Ideal) x1 s.1)) (ix3 b i l) = _
  rw [mask_apply, if_neg hl, mul_zero, zero_mul]

/-- The foreground count. -/
theorem cnt_eq : total (acc (cntStep (tgRows (F := Ideal) x1))) = sumP steps.toFinset fun s b i x => bit (both (mark x1) s b i x) :=
  total_acc _ _ (fg_off x1) (fg_in x1)

/-- The foreground losses. -/
theorem fgs_eq : total (acc (fgStep (dfRows x0 0) (dfRows x0 1) (tgRows (F := Ideal) x1))) =
    sumP steps.toFinset fun s b i x => bit (both (mark x1) s b i x) *
      (size (gap (feat x0) s b 0 i x - num s.1) + size (gap (feat x0) s b 1 i x - num s.2)) := by
  refine total_acc _ _ (fun s b i l hl => ?_) fun s b i x => ?_
  · show fg (tgRows (F := Ideal) x1) s (ix3 b i l) * _ = (0 : EReal)
    rw [fg_off x1 s b i l hl, zero_mul]
  · show fg (tgRows (F := Ideal) x1) s (ix3 b i (base x)) *
      (size (diff (dfRows x0 0) s (ix3 b i (base x)) - Ideal.ofBits .f32 (word s.1)) +
        size (diff (dfRows x0 1) s (ix3 b i (base x)) - Ideal.ofBits .f32 (word s.2))) = _
    rw [fg_in, diff_in, diff_in, word_eq, word_eq]

/-- The background losses. -/
theorem bgs_eq : total (acc (bgStep (dfRows x0 0) (dfRows x0 1) (tgRows (F := Ideal) x1))) =
    sumP steps.toFinset fun s b i x => (1 - bit (both (mark x1) s b i x)) * (gap (feat x0) s b 0 i x + gap (feat x0) s b 1 i x) := by
  refine total_acc _ _ (fun s b i l hl => ?_) fun s b i x => ?_
  · show (lanemask4 (F := Ideal) (ix3 b i l) - fg (tgRows (F := Ideal) x1) s (ix3 b i l)) * _ = (0 : EReal)
    rw [fg_off x1 s b i l hl, mask_apply, if_neg hl, sub_zero, zero_mul]
  · show (lanemask4 (F := Ideal) (ix3 b i (base x)) - fg (tgRows (F := Ideal) x1) s (ix3 b i (base x))) *
      (diff (dfRows x0 0) s (ix3 b i (base x)) + diff (dfRows x0 1) s (ix3 b i (base x))) = _
    rw [fg_in, diff_in, diff_in, mask_in]

/-- The word the kernel subtracts the foreground count from is the number of pairs. -/
theorem pairs_word : Ideal.ofBits .f32 0x4A52C380#32 = ((steps.toFinset.card * 55696 : ℝ) : EReal) := by
  have h : steps.toFinset.card = 62 := by decide
  rw [h]
  simp [Ideal.ofBits, Ideal.ieee, -EReal.coe_mul]
  norm_num

/-- The kernel's loss is the sum over the pairs. -/
theorem lossOf_eq : lossOf x0 x1 = spec steps.toFinset (feat x0) (mark x1) := by
  show Ideal.div (total (acc (fgStep (dfRows x0 0) (dfRows x0 1) (tgRows (F := Ideal) x1))))
        (max (total (acc (cntStep (tgRows (F := Ideal) x1)))) (Ideal.ofBits .f32 0x3F800000#32)) +
      Ideal.div (total (acc (bgStep (dfRows x0 0) (dfRows x0 1) (tgRows (F := Ideal) x1))))
        (max (Ideal.ofBits .f32 0x4A52C380#32 - total (acc (cntStep (tgRows (F := Ideal) x1)))) (Ideal.ofBits .f32 0x3F800000#32)) = _
  rw [fgs_eq, bgs_eq, cnt_eq, pairs_word, Ideal.ofBits_one_f32, ← count_rest]
  rfl
end

end Cert.KernelIdeal.Fold

end
-- ==== Proof.RefRead.lean ====
/-
  The reference's loss read at an index, over the extended reals.
-/
module

public import proofs.«01_k».proof.Proof.Gen.ReferenceIdeal.Run
public import proofs.«01_k».proof.Proof.Spec

@[expose] public section

noncomputable section

namespace Cert.ReferenceIdeal.Read

open Cert.ReferenceIdeal Cert.ReferenceIdeal.Gen Idealize.ShloMosaic Idealize.ShloMosaic.TcCoe Idealize.ShloMosaic.Tactic
  Idealize.ShloMosaic.Pointwise Cert.Pairs

/-- The flat indices of the interior pixels. -/
def from0 : IVec S13924 32 :=
  shapeCast S13924 (extractStridedSlice S118x118 ![5, 5] (shapeCast S128x128 (iotaInDim S16384 32 0) shapeCasts_S16384_S128x128)
    slices_S128x128_S118x118_5_5) shapeCasts_S118x118_S13924

/-- The flat offset of each displacement. -/
def offs : IVec S62 32 :=
  addi (muli (fun i => lit1 (S62.rowMajor i)) (broadcastInDim S62 ![] bcast_S_S62 (constantI S_ 32 128#32)))
    (fun i => lit0 (S62.rowMajor i))

/-- The flat indices of the displaced pixels. -/
def to0 : IVec S62x13924 32 :=
  addi (broadcastInDim S62x13924 ![0, 1] bcast_S1x13924_S62x13924_0_1 (broadcastInDim S1x13924 ![1] bcast_S13924_S1x13924_1 from0))
    (broadcastInDim S62x13924 ![0, 1] bcast_S62x1_S62x13924_0_1 (broadcastInDim S62x1 ![0] bcast_S62_S62x1_0 offs))

/-- The interior pixels' indices as the gathers take them, negative ones wrapped. -/
def from1 : IVec S13924x1 32 :=
  broadcastInDim S13924x1 ![0] bcast_S13924_S13924x1_0
    (select (cmpi .slt from0 (broadcastInDim S13924 ![] bcast_S_S13924 (constantI S_ 32 0#32)))
      (addi from0 (broadcastInDim S13924 ![] bcast_S_S13924 (constantI S_ 32 16384#32))) from0)

/-- The displaced pixels' indices as the gathers take them, negative ones wrapped. -/
def to1 : IVec S62x13924x1 32 :=
  broadcastInDim S62x13924x1 ![0, 1] bcast_S62x13924_S62x13924x1_0_1
    (select (cmpi .slt to0 (broadcastInDim S62x13924 ![] bcast_S_S62x13924 (constantI S_ 32 0#32)))
      (addi to0 (broadcastInDim S62x13924 ![] bcast_S_S62x13924 (constantI S_ 32 16384#32))) to0)

/-- The row and the column of every pixel. -/
def locs : FVec Ideal S2x16384 .f32 :=
  sitofp .f32 (shapeCast S2x16384 (concatenate S2x128x128 0
    [⟨S1x128x128, broadcastInDim S1x128x128 ![1, 2] bcast_S128x128_S1x128x128_1_2 (iotaInDim S128x128 32 0)⟩,
      ⟨S1x128x128, broadcastInDim S1x128x128 ![1, 2] bcast_S128x128_S1x128x128_1_2 (iotaInDim S128x128 32 1)⟩]
    concatenates_S1x128x128_S1x128x128_S2x128x128_d0) shapeCasts_S2x128x128_S2x16384)

/-- The displacement of every pair, as a difference of locations. -/
def hat : FVec Ideal S2x62x13924 .f32 :=
  subf (Host.gather gather_S2x16384_S62x13924x1_S2x62x13924_0_1_n_n_1_2_21 locs to1)
    (broadcastInDim S2x62x13924 ![0, 1, 2] bcast_S2x1x13924_S2x62x13924_0_1_2
      (broadcastInDim S2x1x13924 ![0, 2] bcast_S2x13924_S2x1x13924_0_2
        (Host.gather gather_S2x16384_S13924x1_S2x13924_0_1_n_n_1_1_21 locs from1)))

section
variable (x0 : FVec Ideal S4x2x128x128 .f32) (x1 : IVec S4x128x128 32)

/-- The difference of features of every pair. -/
def del : FVec Ideal S4x2x62x13924 .f32 :=
  subf (Host.gather gather_S4x2x16384_S62x13924x1_S4x2x62x13924_01_2_n_n_2_2_421
      (shapeCast S4x2x16384 x0 shapeCasts_S4x2x128x128_S4x2x16384) to1)
    (broadcastInDim S4x2x62x13924 ![0, 1, 2, 3] bcast_S4x2x1x13924_S4x2x62x13924_0_1_2_3
      (broadcastInDim S4x2x1x13924 ![0, 1, 3] bcast_S4x2x13924_S4x2x1x13924_0_1_3
        (Host.gather gather_S4x2x16384_S13924x1_S4x2x13924_01_2_n_n_2_1_421
          (shapeCast S4x2x16384 x0 shapeCasts_S4x2x128x128_S4x2x16384) from1)))

/-- The label of every pair. -/
def lab : FVec Ideal S4x1x62x13924 .f32 :=
  uitofp .f32 (andi
    (broadcastInDim S4x1x62x13924 ![0, 1, 2, 3] bcast_S4x1x1x13924_S4x1x62x13924_0_1_2_3
      (cmpi .sgt (broadcastInDim S4x1x1x13924 ![0, 3] bcast_S4x13924_S4x1x1x13924_0_3
          (Host.gather gather_S4x16384_S13924x1_S4x13924_0_1_n_n_1_1_41
            (shapeCast S4x16384 x1 shapeCasts_S4x128x128_S4x16384) from1))
        (broadcastInDim S4x1x1x13924 ![] bcast_S_S4x1x1x13924 (constantI S_ 32 0#32))))
    (cmpi .sgt (broadcastInDim S4x1x62x13924 ![0, 2, 3] bcast_S4x62x13924_S4x1x62x13924_0_2_3
        (Host.gather gather_S4x16384_S62x13924x1_S4x62x13924_0_1_n_n_1_2_41
          (shapeCast S4x16384 x1 shapeCasts_S4x128x128_S4x16384) to1))
      (broadcastInDim S4x1x62x13924 ![] bcast_S_S4x1x62x13924 (constantI S_ 32 0#32))))

/-- The complement of the label. -/
def colab : FVec Ideal S4x1x62x13924 .f32 :=
  subf (broadcastInDim S4x1x62x13924 ![] bcast_S_S4x1x62x13924 (constant S_ .f32 0x3F800000#32)) (lab x1)

/-- The foreground losses. -/
def fgs : FVec Ideal S4x2x62x13924 .f32 :=
  mulf (broadcastInDim S4x2x62x13924 ![0, 1, 2, 3] bcast_S4x1x62x13924_S4x2x62x13924_0_1_2_3 (lab x1))
    (Host.absf (subf (del x0) (broadcastInDim S4x2x62x13924 ![0, 1, 2, 3] bcast_S1x2x62x13924_S4x2x62x13924_0_1_2_3
      (broadcastInDim S1x2x62x13924 ![1, 2, 3] bcast_S2x62x13924_S1x2x62x13924_1_2_3 hat))))

/-- The background losses. -/
def bgs : FVec Ideal S4x2x62x13924 .f32 :=
  mulf (broadcastInDim S4x2x62x13924 ![0, 1, 2, 3] bcast_S4x1x62x13924_S4x2x62x13924_0_1_2_3 (colab x1)) (del x0)

/-- The sum of everything, of a quantity without channels. -/
abbrev sum1 (v : FVec Ideal S4x1x62x13924 .f32) : FVec Ideal S_ .f32 :=
  Host.reduceAdd v (constant S_ .f32 0x00000000#32) reducesTo_S4x1x62x13924_S_d0_1_2_3 h_S_

/-- The sum of everything, of a quantity with channels. -/
abbrev sum2 (v : FVec Ideal S4x2x62x13924 .f32) : FVec Ideal S_ .f32 :=
  Host.reduceAdd v (constant S_ .f32 0x00000000#32) reducesTo_S4x2x62x13924_S_d0_1_2_3 h_S_

/-- The reference's loss. -/
def lossOf : FVec Ideal S_ .f32 :=
  addf (Host.divf (sum2 (fgs x0 x1)) (maximumf (sum1 (lab x1)) (constant S_ .f32 0x3F800000#32)))
    (Host.divf (sum2 (bgs x0 x1)) (maximumf (sum1 (colab x1)) (constant S_ .f32 0x3F800000#32)))
end

/-- The run's result is the loss of the arguments. -/
theorem res_eq (m : (ℓ : Loc nD τ sig) → Buf (Elt Ideal) ℓ) (c : Dev nD) :
    Value.res_main_v96 m c = lossOf (m ((c.tc : Thread nD τ).loc main_arg0)) (m ((c.tc : Thread nD τ).loc main_arg2)) := rfl

/-! ## The displacements -/

/-- A displacement of the table. -/
def st (d : Fin 62) : Fin 9 × Fin 9 :=
  (⟨(lit1 d + 4#32).toNat % 9, Nat.mod_lt _ (by decide)⟩, ⟨(lit0 d + 4#32).toNat % 9, Nat.mod_lt _ (by decide)⟩)

/-- The flat offset of a displacement. -/
theorem lit_eq : ∀ d : Fin 62, lit1 d * 128#32 + lit0 d = BitVec.ofNat 32 ((st d).1.val * 128 + (st d).2.val) - 516#32 := by
  decide

/-- The table has no repetition. -/
theorem st_injective : Function.Injective st := by
  unfold Function.Injective
  decide

/-- An interior pixel's place among the interior pixels. -/
def spot (i x : Fin 118) : Fin 13924 := ⟨i.val * 118 + x.val, by omega⟩

/-- A pixel's place among all pixels. -/
def flat (y x : Fin 128) : Fin 16384 := ⟨y.val * 128 + x.val, by omega⟩

/-- The flat index of an interior pixel. -/
theorem from0_apply (i x : Fin 118) : from0 (ix1 (spot i x)) = BitVec.ofNat 32 (flat (base i) (base x)).val := by
  unfold from0
  rw [shapeCast_apply _ _ _ (ix2 i x) (by rw [Shape.rowMajor_val_one, Shape.rowMajor_val_two]; rfl),
    extractStridedSlice_apply _ _ _ _ (ix2 (base i) (base x)) (fun a => by fin_cases a <;> exact Nat.add_comm _ _),
    shapeCast_apply _ _ _ (ix1 (flat (base i) (base x))) (by rw [Shape.rowMajor_val_one, Shape.rowMajor_val_two]; rfl)]
  rfl

/-- The flat offset of a displacement of the table. -/
theorem offs_apply (d : Fin 62) : offs (ix1 d) = BitVec.ofNat 32 ((st d).1.val * 128 + (st d).2.val) - 516#32 := by
  rw [← lit_eq]
  have h : S62.rowMajor (ix1 d) = d := Fin.ext (Shape.rowMajor_val_one _)
  show lit1 (S62.rowMajor (ix1 d)) * 128#32 + lit0 (S62.rowMajor (ix1 d)) = _
  rw [h]

/-- The flat index of a displaced pixel. -/
theorem to0_apply (d : Fin 62) (i x : Fin 118) :
    to0 (ix2 d (spot i x)) = BitVec.ofNat 32 (flat (moved (st d).1 i) (moved (st d).2 x)).val := by
  pointwise [to0]
  rw [from0_apply, offs_apply]
  have h1 := (st d).1.isLt
  have h2 := (st d).2.isLt
  have h3 := i.isLt
  have h4 := x.isLt
  refine BitVec.eq_of_toNat_eq ?_
  simp only [IntOp.addi, flat, base, moved, BitVec.toNat_add, BitVec.toNat_sub, BitVec.toNat_ofNat]
  omega

/-! ## The gathers -/

/-- A small word read signed. -/
theorem toInt_small {n : ℕ} (hn : n < 2 ^ 31) : (BitVec.ofNat 32 n).toInt = n := by
  have e : (BitVec.ofNat 32 n).toNat = n := by
    rw [BitVec.toNat_ofNat]
    omega
  rw [BitVec.toInt_eq_toNat_of_lt (by rw [e]; omega), e]

/-- A word below the array's extent is not wrapped. -/
theorem wrapped {k : ℕ} (hk : k < 16384) (y : BitVec 32) :
    Scalar.select (IntOp.cmpi .slt (BitVec.ofNat 32 k) 0#32) y (BitVec.ofNat 32 k) = BitVec.ofNat 32 k := by
  have h : (BitVec.ofNat 32 k).slt 0#32 = false := by
    have e : (BitVec.ofNat 32 k).toInt = k := toInt_small (by omega)
    simp only [BitVec.slt, e, BitVec.toInt_zero, decide_eq_false_iff_not]
    omega
  simp [Scalar.select, IntOp.cmpi, h]

/-- An interior pixel's index is in range, so the wrapping leaves it. -/
theorem from1_apply (i x : Fin 118) : from1 (ix2 (spot i x) 0) = BitVec.ofNat 32 (flat (base i) (base x)).val := by
  pointwise [from1]
  rw [from0_apply]
  exact wrapped (flat (base i) (base x)).isLt _

/-- A displaced pixel's index is in range, so the wrapping leaves it. -/
theorem to1_apply (d : Fin 62) (i x : Fin 118) :
    to1 (ix3 d (spot i x) 0) = BitVec.ofNat 32 (flat (moved (st d).1 i) (moved (st d).2 x)).val := by
  pointwise [to1]
  rw [to0_apply]
  exact wrapped (flat (moved (st d).1 i) (moved (st d).2 x)).isLt _

/-- A gather of single positions along one axis, at an index whose start index is in range. -/
theorem gather_read {α : Type} {s si t : Shape} (g : GatherDims s si t) (x : s.Idx → α) (idx : IVec si 32) (j : t.Idx)
    (a : Fin s.rank) (p : si.Idx) (k : s.Idx) (n : ℕ) (hm : g.startIndexMap = [a]) (hb : g.operandBatchingDims = [])
    (hp : ∀ c, g.siIdx j c = p) (hx : idx p = BitVec.ofNat 32 n) (hn : n ≤ s.size a - g.sliceSizes a) (hs : n < 2 ^ 31)
    (hc : a ∈ g.collapsedSliceDims) (ha : (k a).val = n) (hk : ∀ b, b ≠ a → (k b).val = g.offCoord j b) :
    Host.gather g x idx j = x k := by
  unfold Host.gather
  refine congrArg x (funext fun b => Fin.ext ?_)
  show g.start j idx b + g.batchCoord j b + g.offCoord j b = (k b).val
  rw [g.batchCoord_eq_zero j b (by rw [hb]; exact List.not_mem_nil), Nat.add_zero]
  unfold GatherDims.start
  by_cases h : b = a
  · subst h
    rw [dif_pos (by rw [hm]; exact List.mem_singleton.mpr rfl), hp, hx, toInt_small hs,
      g.offCoord_eq_zero j b (fun h => ((g.mem_sKept b).1 h).1 hc), ha]
    omega
  · rw [dif_neg (by rw [hm]; exact fun hh => h (List.mem_singleton.mp hh)), hk b h, Nat.zero_add]

section
variable {α : Type}

/-- The locations gathered at an interior pixel. -/
theorem locs_from (v : S2x16384.Idx → α) (c : Fin 2) (i x : Fin 118) :
    Host.gather gather_S2x16384_S13924x1_S2x13924_0_1_n_n_1_1_21 v from1 (ix2 c (spot i x)) =
      v (ix2 c (flat (base i) (base x))) :=
  gather_read _ _ _ _ 1 (ix2 (spot i x) 0) _ _ rfl rfl (fun q => funext fun b => Fin.ext (by fin_cases q; fin_cases b <;> rfl))
    (from1_apply i x) (Nat.le_of_lt_succ (flat _ _).isLt) (lt_trans (flat _ _).isLt (by decide)) (List.mem_singleton.mpr rfl) rfl
    fun b hb => by fin_cases b <;> first | rfl | exact absurd rfl hb

/-- The locations gathered at a displaced pixel. -/
theorem locs_to (v : S2x16384.Idx → α) (c : Fin 2) (d : Fin 62) (i x : Fin 118) :
    Host.gather gather_S2x16384_S62x13924x1_S2x62x13924_0_1_n_n_1_2_21 v to1 (ix3 c d (spot i x)) =
      v (ix2 c (flat (moved (st d).1 i) (moved (st d).2 x))) :=
  gather_read _ _ _ _ 1 (ix3 d (spot i x) 0) _ _ rfl rfl (fun q => funext fun b => Fin.ext (by fin_cases q; fin_cases b <;> rfl))
    (to1_apply d i x) (Nat.le_of_lt_succ (flat _ _).isLt) (lt_trans (flat _ _).isLt (by decide)) (List.mem_singleton.mpr rfl) rfl
    fun b hb => by fin_cases b <;> first | rfl | exact absurd rfl hb

/-- The features gathered at an interior pixel. -/
theorem feat_from (v : S4x2x16384.Idx → α) (b : Fin 4) (c : Fin 2) (i x : Fin 118) :
    Host.gather gather_S4x2x16384_S13924x1_S4x2x13924_01_2_n_n_2_1_421 v from1 (ix3 b c (spot i x)) =
      v (ix3 b c (flat (base i) (base x))) :=
  gather_read _ _ _ _ 2 (ix2 (spot i x) 0) _ _ rfl rfl (fun q => funext fun b => Fin.ext (by fin_cases q; fin_cases b <;> rfl))
    (from1_apply i x) (Nat.le_of_lt_succ (flat _ _).isLt) (lt_trans (flat _ _).isLt (by decide)) (List.mem_singleton.mpr rfl) rfl
    fun b hb => by fin_cases b <;> first | rfl | exact absurd rfl hb

/-- The features gathered at a displaced pixel. -/
theorem feat_to (v : S4x2x16384.Idx → α) (b : Fin 4) (c : Fin 2) (d : Fin 62) (i x : Fin 118) :
    Host.gather gather_S4x2x16384_S62x13924x1_S4x2x62x13924_01_2_n_n_2_2_421 v to1 (ix4 b c d (spot i x)) =
      v (ix3 b c (flat (moved (st d).1 i) (moved (st d).2 x))) :=
  gather_read _ _ _ _ 2 (ix3 d (spot i x) 0) _ _ rfl rfl (fun q => funext fun b => Fin.ext (by fin_cases q; fin_cases b <;> rfl))
    (to1_apply d i x) (Nat.le_of_lt_succ (flat _ _).isLt) (lt_trans (flat _ _).isLt (by decide)) (List.mem_singleton.mpr rfl) rfl
    fun b hb => by fin_cases b <;> first | rfl | exact absurd rfl hb

/-- The targets gathered at an interior pixel. -/
theorem mark_from (v : S4x16384.Idx → α) (b : Fin 4) (i x : Fin 118) :
    Host.gather gather_S4x16384_S13924x1_S4x13924_0_1_n_n_1_1_41 v from1 (ix2 b (spot i x)) =
      v (ix2 b (flat (base i) (base x))) :=
  gather_read _ _ _ _ 1 (ix2 (spot i x) 0) _ _ rfl rfl (fun q => funext fun b => Fin.ext (by fin_cases q; fin_cases b <;> rfl))
    (from1_apply i x) (Nat.le_of_lt_succ (flat _ _).isLt) (lt_trans (flat _ _).isLt (by decide)) (List.mem_singleton.mpr rfl) rfl
    fun b hb => by fin_cases b <;> first | rfl | exact absurd rfl hb

/-- The targets gathered at a displaced pixel. -/
theorem mark_to (v : S4x16384.Idx → α) (b : Fin 4) (d : Fin 62) (i x : Fin 118) :
    Host.gather gather_S4x16384_S62x13924x1_S4x62x13924_0_1_n_n_1_2_41 v to1 (ix3 b d (spot i x)) =
      v (ix2 b (flat (moved (st d).1 i) (moved (st d).2 x))) :=
  gather_read _ _ _ _ 1 (ix3 d (spot i x) 0) _ _ rfl rfl (fun q => funext fun b => Fin.ext (by fin_cases q; fin_cases b <;> rfl))
    (to1_apply d i x) (Nat.le_of_lt_succ (flat _ _).isLt) (lt_trans (flat _ _).isLt (by decide)) (List.mem_singleton.mpr rfl) rfl
    fun b hb => by fin_cases b <;> first | rfl | exact absurd rfl hb
end

/-! ## The terms -/

/-- The location of a pixel along an axis. -/
theorem locs_apply (c : Fin 2) (y x : Fin 128) : locs (ix2 c (flat y x)) = (((![y, x] : Fin 2 → Fin 128) c).val : ℝ) := by
  have e : ∀ z : Fin 128, (BitVec.ofNat 32 z.val).toInt = (z.val : ℤ) := fun z => toInt_small (by omega)
  have h : ∀ w : BitVec 32, shapeCast S2x16384 (concatenate S2x128x128 0
    [⟨S1x128x128, broadcastInDim S1x128x128 ![1, 2] bcast_S128x128_S1x128x128_1_2 (iotaInDim S128x128 32 0)⟩,
      ⟨S1x128x128, broadcastInDim S1x128x128 ![1, 2] bcast_S128x128_S1x128x128_1_2 (iotaInDim S128x128 32 1)⟩]
    concatenates_S1x128x128_S1x128x128_S2x128x128_d0) shapeCasts_S2x128x128_S2x16384 (ix2 c (flat y x)) = w →
      locs (ix2 c (flat y x)) = ((w.toInt : ℝ) : EReal) := fun w hw => by
    rw [← hw]
    rfl
  rw [h (BitVec.ofNat 32 ((![y, x] : Fin 2 → Fin 128) c).val) ?_, e]
  · simp
  rw [shapeCast_apply _ _ _ (ix3 c y x) (by
    rw [Shape.rowMajor_val_two, Shape.rowMajor_val_three]
    show (c.val * 128 + y.val) * 128 + x.val = c.val * 16384 + (y.val * 128 + x.val)
    omega)]
  fin_cases c
  · exact concatenate_pair_apply_left (t := S2x128x128) (s₁ := S1x128x128) (s₂ := S1x128x128) 0 _ _ _ _ rfl
      (ix3 0 y x : S1x128x128.Idx) (fun b => by fin_cases b <;> rfl)
  · exact concatenate_pair_apply_right (t := S2x128x128) (s₁ := S1x128x128) (s₂ := S1x128x128) 0 _ _ _ _ rfl rfl
      (ix3 0 y x : S1x128x128.Idx) (fun b hb => by fin_cases b <;> first | rfl | exact absurd rfl hb) rfl

/-- The displacement of a pair along an axis. -/
theorem hat_apply (c : Fin 2) (d : Fin 62) (i x : Fin 118) :
    hat (ix3 c d (spot i x)) = num ((![(st d).1, (st d).2] : Fin 2 → Fin 9) c) := by
  pointwise [hat]
  rw [locs_to, locs_from, locs_apply, locs_apply, ← EReal.coe_sub, num]
  congr 1
  fin_cases c <;> simp [moved, base] <;> ring

section
variable (x0 : FVec Ideal S4x2x128x128 .f32) (x1 : IVec S4x128x128 32)

/-- The features by flat index. -/
theorem feat_flat (b : Fin 4) (c : Fin 2) (y x : Fin 128) :
    shapeCast S4x2x16384 x0 shapeCasts_S4x2x128x128_S4x2x16384 (ix3 b c (flat y x)) = feat x0 b c y x :=
  shapeCast_apply _ _ _ (ix4 b c y x) (by
    rw [Shape.rowMajor_val_three, Shape.rowMajor_val_four]
    show ((b.val * 2 + c.val) * 128 + y.val) * 128 + x.val = (b.val * 2 + c.val) * 16384 + (y.val * 128 + x.val)
    omega)

/-- The targets by flat index. -/
theorem mark_flat (b : Fin 4) (y x : Fin 128) :
    shapeCast S4x16384 x1 shapeCasts_S4x128x128_S4x16384 (ix2 b (flat y x)) = x1 (ix3 b y x) :=
  shapeCast_apply _ _ _ (ix3 b y x) (by
    rw [Shape.rowMajor_val_two, Shape.rowMajor_val_three]
    show (b.val * 128 + y.val) * 128 + x.val = b.val * 16384 + (y.val * 128 + x.val)
    omega)

/-- The difference of features of a pair. -/
theorem del_apply (b : Fin 4) (c : Fin 2) (d : Fin 62) (i x : Fin 118) :
    del x0 (ix4 b c d (spot i x)) = gap (feat x0) (st d) b c i x := by
  pointwise [del]
  rw [feat_to, feat_from, feat_flat, feat_flat]
  rfl

/-- The label of a pair: both targets are positive. -/
theorem lab_apply (b : Fin 4) (d : Fin 62) (i x : Fin 118) :
    lab x1 (ix4 b 0 d (spot i x)) = bit (both (mark x1) (st d) b i x) := by
  pointwise [lab]
  rw [mark_to, mark_from, mark_flat, mark_flat]
  show ((((BitVec.ofBool (mark x1 b (base i) (base x)) &&& BitVec.ofBool (mark x1 b (moved (st d).1 i) (moved (st d).2 x))).toNat : ℕ) : ℝ) :
    EReal) = _
  unfold both bit
  cases mark x1 b (base i) (base x) <;> cases mark x1 b (moved (st d).1 i) (moved (st d).2 x) <;> simp

/-- The complement of the label of a pair. -/
theorem colab_apply (b : Fin 4) (d : Fin 62) (i x : Fin 118) :
    colab x1 (ix4 b 0 d (spot i x)) = 1 - bit (both (mark x1) (st d) b i x) := by
  pointwise [colab]
  rw [lab_apply]

/-- The foreground loss of a pair in a channel. -/
theorem fgs_apply (b : Fin 4) (c : Fin 2) (d : Fin 62) (i x : Fin 118) :
    fgs x0 x1 (ix4 b c d (spot i x)) = bit (both (mark x1) (st d) b i x) *
      size (gap (feat x0) (st d) b c i x - num ((![(st d).1, (st d).2] : Fin 2 → Fin 9) c)) := by
  pointwise [fgs]
  rw [lab_apply, del_apply, hat_apply]
  rfl

/-- The background loss of a pair in a channel. -/
theorem bgs_apply (b : Fin 4) (c : Fin 2) (d : Fin 62) (i x : Fin 118) :
    bgs x0 x1 (ix4 b c d (spot i x)) = (1 - bit (both (mark x1) (st d) b i x)) * gap (feat x0) (st d) b c i x := by
  pointwise [bgs]
  rw [colab_apply, del_apply]

/-! ## The sums -/

/-- A sum over everything. -/
theorem sum_all {s : Shape} {axes : List (Fin s.rank)} (v : FVec Ideal s .f32) (h : s.ReducesTo axes S_) (hu : 0 < S_.numel)
    (j : S_.Idx) : Host.reduceAdd v (constant S_ .f32 0x00000000#32) h hu j = ∑ k, v k := by
  show Ideal.ofBits .f32 0x00000000#32 + ∑ k ∈ Finset.univ.filter (fun k => h.drop k = j), v k = _
  rw [Ideal.ofBits_zero_f32, zero_add, Finset.filter_true_of_mem fun k _ => (ValueIdx.eq_ix0 _).trans (ValueIdx.eq_ix0 _).symm]

/-- The sum over images, displacements and places. -/
theorem sum1_apply (v : FVec Ideal S4x1x62x13924 .f32) (j : S_.Idx) : sum1 v j = ∑ k, v k := sum_all v _ _ j

/-- The sum over images, channels, displacements and places. -/
theorem sum2_apply (v : FVec Ideal S4x2x62x13924 .f32) (j : S_.Idx) : sum2 v j = ∑ k, v k := sum_all v _ _ j

/-- A sum over the pairs' indices is the sum over displacements, images, rows, columns and channels. -/
theorem sum_pairs {C : ℕ} (f : (⟨4, ![4, C, 62, 13924]⟩ : Shape).Idx → EReal) :
    ∑ k, f k = ∑ d, ∑ b, ∑ i, ∑ x, ∑ c, f (ix4 b c d (spot i x)) := by
  let e : Fin 62 × Fin 4 × Fin 118 × Fin 118 × Fin C ≃ (⟨4, ![4, C, 62, 13924]⟩ : Shape).Idx :=
    { toFun := fun p => ix4 p.2.1 p.2.2.2.2 p.1 (spot p.2.2.1 p.2.2.2.1)
      invFun := fun k => (k 2, k 0, ⟨(k 3).val / 118, Nat.div_lt_of_lt_mul (k 3).isLt⟩,
        ⟨(k 3).val % 118, Nat.mod_lt _ (by decide)⟩, k 1)
      left_inv := fun p => by
        obtain ⟨d, b, i, x, c⟩ := p
        have hx := x.isLt
        refine Prod.ext rfl (Prod.ext rfl (Prod.ext (Fin.ext ?_) (Prod.ext (Fin.ext ?_) rfl)))
        · show (i.val * 118 + x.val) / 118 = i.val
          omega
        · show (i.val * 118 + x.val) % 118 = x.val
          omega
      right_inv := fun k => by
        refine Eq.trans ?_ (eq_ix4 k).symm
        refine congrArg (ix4 (k 0) (k 1) (k 2)) (Fin.ext ?_)
        show (k 3).val / 118 * 118 + (k 3).val % 118 = (k 3).val
        omega }
  rw [← Equiv.sum_comp e]
  simp only [Fintype.sum_prod_type]
  rfl

/-- A sum over the table is the sum over the displacements. -/
theorem sum_table (f : Fin 9 × Fin 9 → Fin 4 → Fin 118 → Fin 118 → EReal) :
    ∑ d, ∑ b, ∑ i, ∑ x, f (st d) b i x = sumP (Finset.univ.image st) f := by
  unfold sumP
  rw [Finset.sum_image fun _ _ _ _ h => st_injective h]

/-- The reference's loss is the sum over the pairs. -/
theorem lossOf_eq (j : S_.Idx) : lossOf x0 x1 j = spec (Finset.univ.image st) (feat x0) (mark x1) := by
  have key : ∀ v1 v2 v3 v4 : FVec Ideal S_ .f32,
      addf (Host.divf v1 (maximumf v2 (constant S_ .f32 0x3F800000#32))) (Host.divf v3 (maximumf v4 (constant S_ .f32 0x3F800000#32))) j =
        Ideal.div (v1 j) (max (v2 j) (Ideal.ofBits .f32 0x3F800000#32)) +
          Ideal.div (v3 j) (max (v4 j) (Ideal.ofBits .f32 0x3F800000#32)) := fun _ _ _ _ => rfl
  rw [lossOf, key]
  have hb : ∀ (p : Bool) (y z : EReal), bit p * y + bit p * z = bit p * (y + z) := fun p y z => by cases p <;> simp [bit]
  have hc : ∀ (p : Bool) (y z : EReal), (1 - bit p) * y + (1 - bit p) * z = (1 - bit p) * (y + z) := fun p y z => by
    cases p <;> simp [one_sub_bit]
  have e1 : sum1 (lab x1) j = sumP (Finset.univ.image st) fun s b i x => bit (both (mark x1) s b i x) := by
    rw [sum1_apply, sum_pairs, ← sum_table]
    simp only [Fintype.sum_unique]
    exact Finset.sum_congr rfl fun d _ => Finset.sum_congr rfl fun b _ => Finset.sum_congr rfl fun i _ =>
      Finset.sum_congr rfl fun x _ => lab_apply x1 b d i x
  have e2 : sum1 (colab x1) j = sumP (Finset.univ.image st) fun s b i x => 1 - bit (both (mark x1) s b i x) := by
    rw [sum1_apply, sum_pairs, ← sum_table]
    simp only [Fintype.sum_unique]
    exact Finset.sum_congr rfl fun d _ => Finset.sum_congr rfl fun b _ => Finset.sum_congr rfl fun i _ =>
      Finset.sum_congr rfl fun x _ => colab_apply x1 b d i x
  rw [e1, e2, sum2_apply, sum2_apply, sum_pairs, sum_pairs, Ideal.ofBits_one_f32]
  simp only [Fin.sum_univ_two, fgs_apply, bgs_apply, hb, hc]
  rw [spec, ← sum_table, ← sum_table, ← sum_table]
  rfl
end

end Cert.ReferenceIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRead
public import proofs.«01_k».proof.Proof.RefRead
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's table holds the kernel's displacements, in another order. -/
theorem table_eq : Finset.univ.image Cert.ReferenceIdeal.Read.st = Cert.KernelIdeal.Fold.steps.toFinset := by decide

/-- The two losses of the same arguments. -/
theorem loss_eq (x0 : FVec Ideal Cert.KernelIdeal.S4x2x128x128 .f32) (x1 : IVec Cert.KernelIdeal.S4x128x128 32) :
    Cert.ReferenceIdeal.Read.lossOf x0 x1 =
      (broadcast Cert.KernelIdeal.S_ (Cert.KernelIdeal.Fold.lossOf x0 x1) : FVec Ideal Cert.KernelIdeal.S_ .f32) :=
  funext fun j => (Cert.ReferenceIdeal.Read.lossOf_eq x0 x1 j).trans
    ((congrArg (fun A => Cert.Pairs.spec A (Cert.Pairs.feat x0) (Cert.Pairs.mark x1)) table_eq).trans
      (Cert.KernelIdeal.Fold.lossOf_eq x0 x1).symm)

/-- The reference runs, leaves its arguments and every semaphore as they were: it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems rfl r.2⟩) (Cert.ReferenceIdeal.Value.run m g)

/-- The claims. -/
theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  fun m g _ => frame_reference m g,
  trivial,
  fun m g m' g' _ hm => ⟨_, Cert.KernelIdeal.Fold.run m g,
    (θ_run _ _ _).mono (fun _ h c => ⟨(h c).1.trans ((Cert.ReferenceIdeal.Read.res_eq m' c).trans
        ((congrArg₂ Cert.ReferenceIdeal.Read.lossOf (hm c).1 (hm c).2.2).trans (loss_eq _ _))), (h c).2⟩)
      (Cert.ReferenceIdeal.Value.run m' g')⟩⟩

end Cert.Proof

end
